-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_ReferenceIdeal_on_quantized [hKernelIdeal : Cert.KernelIdeal.Facts] [hReferenceIdeal : Cert.ReferenceIdeal.Facts] [hOn_quantized : Cert.On_quantized.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![16, 32, 32, 32]⟩ : Shape).Idx, (Cert.On_quantized.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v10) i = v0 c i)
          ∧ (∀ i : (⟨0, ![]⟩ : Shape).Idx, (Cert.On_quantized.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.KernelIdeal.nD Cert.KernelIdeal.τ).loc Cert.KernelIdeal.main_v8) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![16, 32, 32, 32]⟩ : Shape).Idx, (Cert.On_quantized.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v31) i = v0 c i)
          ∧ (∀ i : (⟨0, ![]⟩ : Shape).Idx, (Cert.On_quantized.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.ReferenceIdeal.nD Cert.ReferenceIdeal.τ).loc Cert.ReferenceIdeal.main_v28) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts) (hOn_quantized : Cert.On_quantized.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
    ∧ algebraic_KernelIdeal_ReferenceIdeal_on_quantized (hKernelIdeal := hKernelIdeal) (hReferenceIdeal := hReferenceIdeal) (hOn_quantized := hOn_quantized)
-- ==== On_quantized.lean ====
abbrev S16x32x32x32 : Shape := ⟨4, ![16, 32, 32, 32]⟩
abbrev S8192x32 : Shape := ⟨2, ![8192, 32]⟩
abbrev S_ : Shape := ⟨0, ![]⟩

class Facts : Prop where
  bcast_S_S16x32x32x32 : S_.BroadcastsInDim S16x32x32x32 (![] : Fin 0 → Fin S16x32x32x32.rank)

variable [Facts]

def fn {F : FTy → Type} [FloatOps F] (main_arg0 : FVec F S16x32x32x32 .f32) (main_arg1 : FVec F S8192x32 .f32) : IVec S16x32x32x32 1 × IVec S_ 1 :=
  let main_c : IVec S_ 1 := constantI S_ 1 1#1
  let main_v0 : IVec S16x32x32x32 1 := broadcastInDim S16x32x32x32 ![] bcast_S_S16x32x32x32 main_c
  let main_c_0 : IVec S_ 1 := constantI S_ 1 0#1
  (main_v0, main_c_0)
-- ==== Pre_finite.lean ====
abbrev S16x32x32x32 : Shape := ⟨4, ![16, 32, 32, 32]⟩
abbrev S8192x32 : Shape := ⟨2, ![8192, 32]⟩
abbrev S_ : Shape := ⟨0, ![]⟩

class Facts : Prop where
  bcast_S_S16x32x32x32 : S_.BroadcastsInDim S16x32x32x32 (![] : Fin 0 → Fin S16x32x32x32.rank)
  reducesTo_S16x32x32x32_S_d0_1_2_3 : S16x32x32x32.ReducesTo [0, 1, 2, 3] S_
  h_S_ : 0 < S_.numel
  bcast_S_S8192x32 : S_.BroadcastsInDim S8192x32 (![] : Fin 0 → Fin S8192x32.rank)
  reducesTo_S8192x32_S_d0_1 : S8192x32.ReducesTo [0, 1] S_

variable [Facts]

def fn {F : FTy → Type} [FloatOps F] (main_arg0 : FVec F S16x32x32x32 .f32) (main_arg1 : FVec F S8192x32 .f32) : IVec S_ 1 :=
  let main_v0 : FVec F S16x32x32x32 .f32 := Host.absf main_arg0
  let main_cst : FVec F S_ .f32 := constant S_ .f32 0x7F800000#32
  let main_v1 : FVec F S16x32x32x32 .f32 := broadcastInDim S16x32x32x32 ![] bcast_S_S16x32x32x32 main_cst
  let main_v2 : IVec S16x32x32x32 1 := cmpf .olt main_v0 main_v1
  let main_c : IVec S_ 1 := constantI S_ 1 1#1
  let main_v3 : IVec S_ 1 := (fun x v => Host.reduce IntOp.andi x v reducesTo_S16x32x32x32_S_d0_1_2_3 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  main_v8
-- ==== Kernel.lean ====
abbrev S16x32x32x32 : Shape := ⟨4, ![16, 32, 32, 32]⟩
abbrev S8192x32 : Shape := ⟨2, ![8192, 32]⟩
abbrev S16384x32 : Shape := ⟨2, ![16384, 32]⟩
abbrev S_ : Shape := ⟨0, ![]⟩
abbrev S16384 : Shape := ⟨1, ![16384]⟩
abbrev S8192 : Shape := ⟨1, ![8192]⟩
abbrev S16384x1 : Shape := ⟨2, ![16384, 1]⟩
abbrev S256x32 : Shape := ⟨2, ![256, 32]⟩
abbrev S256 : Shape := ⟨1, ![256]⟩
abbrev S256x1 : Shape := ⟨2, ![256, 1]⟩
abbrev S256x8192 : Shape := ⟨2, ![256, 8192]⟩
abbrev S1x8192 : Shape := ⟨2, ![1, 8192]⟩

abbrev nBuf : Space → Nat
  | .hbm => 19
  | .vmem => 12
  | .smem => 0
  | _ => 0

abbrev bufTy : (tb : Table) → Fin (tcTables nBuf tb) → BufTy
  | .hbm, ⟨0, _⟩ => ⟨S16x32x32x32, .f32⟩
  | .hbm, ⟨1, _⟩ => ⟨S8192x32, .f32⟩
  | .hbm, ⟨2, _⟩ => ⟨S16x32x32x32, .f32⟩
  | .hbm, ⟨3, _⟩ => ⟨S16384x32, .f32⟩
  | .hbm, ⟨4, _⟩ => ⟨S16384x32, .f32⟩
  | .hbm, ⟨5, _⟩ => ⟨S_, .f32⟩
  | .hbm, ⟨6, _⟩ => ⟨S16384, .f32⟩
  | .hbm, ⟨7, _⟩ => ⟨S8192x32, .f32⟩
  | .hbm, ⟨8, _⟩ => ⟨S_, .f32⟩
  | .hbm, ⟨9, _⟩ => ⟨S8192, .f32⟩
  | .hbm, ⟨10, _⟩ => ⟨S16384x32, .f32⟩
  | .hbm, ⟨11, _⟩ => ⟨S16384, .i32⟩
  | .hbm, ⟨12, _⟩ => ⟨S16384x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S16x32x32x32, .f32⟩
  | .hbm, ⟨18, _⟩ => ⟨S16x32x32x32, .f32⟩
  | .local _ .vmem, ⟨0, _⟩ => ⟨S256x32, .f32⟩
  | .local _ .vmem, ⟨1, _⟩ => ⟨S256x32, .f32⟩
  | .local _ .vmem, ⟨2, _⟩ => ⟨S256, .f32⟩
  | .local _ .vmem, ⟨3, _⟩ => ⟨S256, .f32⟩
  | .local _ .vmem, ⟨4, _⟩ => ⟨S8192, .f32⟩
  | .local _ .vmem, ⟨5, _⟩ => ⟨S8192x32, .f32⟩
  | .local _ .vmem, ⟨6, _⟩ => ⟨S256x32, .f32⟩
  | .local _ .vmem, ⟨7, _⟩ => ⟨S256x32, .f32⟩
  | .local _ .vmem, ⟨8, _⟩ => ⟨S256, .i32⟩
  | .local _ .vmem, ⟨9, _⟩ => ⟨S256, .i32⟩
  | .local _ .vmem, ⟨10, _⟩ => ⟨S256x1, .f32⟩
  | .local _ .vmem, ⟨11, _⟩ => ⟨S256x1, .f32⟩
  | _, _ => ⟨S16x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16x32x32x32 : Shape := ⟨4, ![16, 32, 32, 32]⟩
abbrev S8192x32 : Shape := ⟨2, ![8192, 32]⟩
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S32x8192 : Shape := ⟨2, ![32, 8192]⟩
abbrev S16384x8192 : Shape := ⟨2, ![16384, 8192]⟩
abbrev S8192 : Shape := ⟨1, ![8192]⟩
abbrev S1x8192 : Shape := ⟨2, ![1, 8192]⟩
abbrev S1 : Shape := ⟨1, ![1]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S16x32x32x32, .f32⟩
  | .hbm, ⟨1, _⟩ => ⟨S8192x32, .f32⟩
  | .hbm, ⟨2, _⟩ => ⟨S16x32x32x32, .f32⟩
  | .hbm, ⟨3, _⟩ => ⟨S16384x32, .f32⟩
  | .hbm, ⟨4, _⟩ => ⟨S16384x32, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S32x8192, .f32⟩
  | .hbm, ⟨9, _⟩ => ⟨S16384x8192, .f32⟩
  | .hbm, ⟨10, _⟩ => ⟨S_, .f32⟩
  | .hbm, ⟨11, _⟩ => ⟨S16384x8192, .f32⟩
  | .hbm, ⟨12, _⟩ => ⟨S16384x8192, .f32⟩
  | .hbm, ⟨13, _⟩ => ⟨S16384x8192, .f32⟩
  | .hbm, ⟨14, _⟩ => ⟨S16384x8192, .f32⟩
  | .hbm, ⟨15, _⟩ => ⟨S8192x32, .f32⟩
  | .hbm, ⟨16, _⟩ => ⟨S_, .f32⟩
  | .hbm, ⟨17, _⟩ => ⟨S8192, .f32⟩
  | .hbm, ⟨18, _⟩ => ⟨S1x8192, .f32⟩
  | .hbm, ⟨19, _⟩ => ⟨S16384x8192, .f32⟩
  | .hbm, ⟨20, _⟩ => ⟨S16384x8192, .f32⟩
  | .hbm, ⟨21, _⟩ => ⟨S16384x8192, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S1, .i32⟩
  | .hbm, ⟨35, _⟩ => ⟨S_, .i32⟩
  | .hbm, ⟨36, _⟩ => ⟨S16384x1, .i32⟩
  | .hbm, ⟨37, _⟩ => ⟨S16384x1, .i1⟩
  | .hbm, ⟨38, _⟩ => ⟨S1x1, .i32⟩
  | .hbm, ⟨39, _⟩ => ⟨S16384x1, .i32⟩
  | .hbm, ⟨40, _⟩ => ⟨S16384x1, .i1⟩
  | .hbm, ⟨41, _⟩ => ⟨S16384x1, .i1⟩
  | .hbm, ⟨42, _⟩ => ⟨S_, .i1⟩
  | .hbm, ⟨43, _⟩ => ⟨S16384, .i1⟩
  | .hbm, ⟨44, _⟩ => ⟨S16384x32, .f32⟩
  | .hbm, ⟨45, _⟩ => ⟨S16384x32, .i1⟩
  | .hbm, ⟨46, _⟩ => ⟨S_, .f32⟩
  | .hbm, ⟨47, _⟩ => ⟨S16384x32, .f32⟩
  | .hbm, ⟨48, _⟩ => ⟨S16384x32, .f32⟩
  | .hbm, ⟨49, _⟩ => ⟨S16x32x32x32, .f32⟩
  | .hbm, ⟨50, _⟩ => ⟨S16x32x32x32, .f32⟩
  | .hbm, ⟨51, _⟩ => ⟨S16x32x32x32, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S16x32x32x32, .f32⟩
  | .hbm, ⟨57, _⟩ => ⟨S16x32x32x32, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S16x32x32x32, .f32⟩
  | .hbm, ⟨66, _⟩ => ⟨S16x32x32x32, .f32⟩
  | .hbm, ⟨67, _⟩ => ⟨S16x32x32x32, .f32⟩
  | _, _ => ⟨S16x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_4 : Ref sig .tc := ⟨.hbm, 58, rfl⟩
abbrev main_v25 : Ref sig .tc := ⟨.hbm, 59, rfl⟩
abbrev main_cst_5 : Ref sig .tc := ⟨.hbm, 60, rfl⟩
abbrev main_v26 : Ref sig .tc := ⟨.hbm, 61, rfl⟩
abbrev main_cst_6 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩

abbrev nD : Nat := 1
abbrev τ : Topo := Topo.v7x

variable {F : FTy → Type} [FloatOps F]
-- ==== Proof.Nearest.lean ====
module

public import Idealize.ShloMosaic.PureOps.Ideal.Laws
public import Idealize.ShloMosaic.PureOps.Reduce

/-! The mathematics of a nearest-code lookup over the extended reals: the first index at which a distance is
least, the two ways the programs find it, and the squared distance written out. -/

@[expose] public section

noncomputable section

namespace Cert.Nearest

open Idealize.ShloMosaic

/-! ## Words of constants -/

/-- The word of `2`. -/
theorem two_bits : Ideal.ofBits .f32 1073741824#32 = 2 := by
  rw [show (2 : EReal) = ((2 : ℝ) : EReal) from rfl]
  simp [Ideal.ofBits, Ideal.ieee, -EReal.coe_mul]; norm_num

/-- The word of positive infinity. -/
theorem top_bits : Ideal.ofBits .f32 2139095040#32 = ⊤ := by
  simp [Ideal.ofBits, Ideal.ieee]

/-- The word of `524288`. -/
theorem count_bits : Ideal.ofBits .f32 0x49000000#32 = ((524288 : ℝ) : EReal) := by
  simp [Ideal.ofBits, Ideal.ieee, -EReal.coe_mul]; norm_num

/-- The word of a quarter. -/
theorem quarter_bits : Ideal.ofBits .f32 0x3E800000#32 = ((1 / 4 : ℝ) : EReal) := by
  simp [Ideal.ofBits, Ideal.ieee, -EReal.coe_mul]; norm_num

/-- The word of one and a quarter over `524288`. -/
theorem scale_bits : Ideal.ofBits .f32 0x36200000#32 = ((5 / 2097152 : ℝ) : EReal) := by
  simp [Ideal.ofBits, Ideal.ieee, -EReal.coe_mul]; norm_num

/-! ## The first index of the least value -/

/-- `i` is the first index at which `D` is least. -/
structure First {n : ℕ} (D : Fin n → EReal) (i : Fin n) : Prop where
  least : ∀ k, D i ≤ D k
  first : ∀ k, D k = D i → i ≤ k

/-- A function on a nonempty finite range has such an index. -/
theorem exists_first {n : ℕ} [NeZero n] (D : Fin n → EReal) : ∃ i, First D i := by
  obtain ⟨m, hm⟩ := Finite.exists_min D
  classical
  let s := Finset.univ.filter fun k => D k = D m
  have hs : s.Nonempty := ⟨m, by simp [s]⟩
  have hi : D (s.min' hs) = D m := by simpa [s] using s.min'_mem hs
  refine ⟨s.min' hs, fun k => hi ▸ hm k, fun k hk => s.min'_le k ?_⟩
  simp [s, hk, hi]

/-- The least value is the minimum of all of them. -/
theorem First.fold_min {n : ℕ} {D : Fin n → EReal} {i : Fin n} (h : First D i) :
    Finset.fold min ⊤ D Finset.univ = D i := by
  apply le_antisymm
  · exact (Finset.fold_min_le _).mpr (Or.inr ⟨i, Finset.mem_univ _, le_rfl⟩)
  · exact (Finset.le_fold_min _).mpr ⟨le_top, fun k _ => h.least k⟩

/-- A word below `2 ^ 31`, read signed. -/
theorem toInt_ofNat {n : ℕ} (h : n < 2147483648) : (BitVec.ofNat 32 n).toInt = n := by
  rw [BitVec.toInt_ofNat', Int.bmod_def]
  omega

/-- The smaller of two words, read signed. -/
theorem toInt_minsi (x y : BitVec 32) : (IntOp.minsi x y).toInt = min x.toInt y.toInt := by
  simp only [IntOp.minsi, BitVec.slt]
  split <;> rename_i h <;> simp only [decide_eq_true_eq] at h <;> omega

/-- The minimum over the indices where the value is the least one, any other index replaced by `8192`, is the
    first such index. -/
theorem First.fold_minsi {D : Fin 8192 → EReal} {i : Fin 8192} (h : First D i) :
    Finset.fold IntOp.minsi 2147483647#32
      (fun k => if D k = D i then BitVec.ofNat 32 (k : ℕ) else 8192#32) Finset.univ = BitVec.ofNat 32 (i : ℕ) := by
  apply BitVec.eq_of_toInt_eq
  apply le_antisymm
  · refine (Finset.fold_op_rel_iff_or (r := fun a b : BitVec 32 => b.toInt ≤ a.toInt) ?_).mpr
      (Or.inr ⟨i, Finset.mem_univ _, by simp⟩)
    intro x y z
    simp [toInt_minsi]
  · refine (Finset.fold_op_rel_iff_and (r := fun a b : BitVec 32 => a.toInt ≤ b.toInt) ?_).mpr ⟨?_, fun k _ => ?_⟩
    · intro x y z
      simp [toInt_minsi]
    · rw [toInt_ofNat (by omega)]
      have : (2147483647#32).toInt = 2147483647 := by decide
      omega
    · rw [toInt_ofNat (by omega)]
      split
      · rename_i hk
        have := h.first k hk
        rw [toInt_ofNat (by omega)]
        omega
      · have : (8192#32).toInt = 8192 := by decide
        omega

/-! ## A fold that keeps one of two -/

/-- A left fold whose step keeps one of its two operands, and keeps `p` whenever `p` is one of them and beats
    the other, ends at `p` when `p` is on the list and beats every other element. -/
theorem foldl_keeps {α : Type} (f : α → α → α) (beats : α → α → Prop)
    (hf : ∀ a b, f a b = a ∨ f a b = b) (p : α) (hl : ∀ b, beats p b → f p b = p)
    (hr : ∀ a, beats p a → f a p = p) :
    ∀ (l : List α) (a : α), (p = a ∨ p ∈ l) → (∀ q, q = a ∨ q ∈ l → q = p ∨ beats p q) → l.foldl f a = p
  | [], a, hp, _ => by simpa [eq_comm] using hp
  | b :: l, a, hp, hq => by
    have ha := hq a (Or.inl rfl)
    have hb := hq b (Or.inr (by simp))
    have hpp : f p p = p := by simpa using hf p p
    refine foldl_keeps f beats hf p hl hr l (f a b) ?_ fun q hq' => ?_
    · rcases hp with rfl | hp
      · rcases hb with rfl | hb
        · exact Or.inl hpp.symm
        · exact Or.inl (hl b hb).symm
      · rcases List.mem_cons.mp hp with rfl | hp
        · rcases ha with rfl | ha
          · exact Or.inl hpp.symm
          · exact Or.inl (hr a ha).symm
        · exact Or.inr hp
    · rcases hq' with rfl | hq'
      · rcases hf a b with h | h <;> rw [h]
        · exact ha
        · exact hb
      · exact hq q (Or.inr (by simp [hq']))

/-- The order of an arg-min's pairs: the smaller value, and of equal values the smaller index. -/
def Beats (p q : EReal × BitVec 32) : Prop :=
  p.1 < q.1 ∨ p.1 = q.1 ∧ p.2.toInt < q.2.toInt

/-! ## The lookup as a product -/

/-- The sum of the codes, each times one where its index is `i` and zero elsewhere, is code `i`. -/
theorem sum_onehot (i : Fin 8192) (v : Fin 8192 → EReal) :
    (∑ k : Fin 8192, (((BitVec.setWidth 32 (IntOp.cmpi .eq (BitVec.ofNat 32 (k : ℕ)) (BitVec.ofNat 32 (i : ℕ)))).toInt : ℝ) : EReal)
      * v k) = v i := by
  rw [Finset.sum_eq_single i]
  · have : (BitVec.setWidth 32 (IntOp.cmpi .eq (BitVec.ofNat 32 (i : ℕ)) (BitVec.ofNat 32 (i : ℕ)))).toInt = 1 := by
      simp [IntOp.cmpi]
    rw [this]; simp
  · intro k _ hk
    have hne : BitVec.ofNat 32 (k : ℕ) ≠ BitVec.ofNat 32 (i : ℕ) := by
      intro he
      have := congrArg BitVec.toNat he
      simp only [BitVec.toNat_ofNat] at this
      exact hk (Fin.ext (by omega))
    have : (BitVec.setWidth 32 (IntOp.cmpi .eq (BitVec.ofNat 32 (k : ℕ)) (BitVec.ofNat 32 (i : ℕ)))).toInt = 0 := by
      have hb : (BitVec.ofNat 32 (k : ℕ) == BitVec.ofNat 32 (i : ℕ)) = false := beq_eq_false_iff_ne.mpr hne
      simp [IntOp.cmpi, hb]
    rw [this]; simp
  · simp

/-! ## The squared distance -/

/-- The squared distance from `a` to `b`, expanded: both squared lengths less twice the inner product. -/
def sqDist (a b : Fin 32 → EReal) : EReal :=
  ((∑ c, a c * a c) - 2 * ∑ c, a c * b c) + ∑ c, b c * b c

/-- The first of the codes at the least distance from `a`. -/
def code (a : Fin 32 → EReal) (w : Fin 8192 → Fin 32 → EReal) : Fin 8192 :=
  (exists_first fun k => sqDist a (w k)).choose

/-- It is the first such code. -/
theorem code_first (a : Fin 32 → EReal) (w : Fin 8192 → Fin 32 → EReal) :
    First (fun k => sqDist a (w k)) (code a w) :=
  (exists_first fun k => sqDist a (w k)).choose_spec

/-- A sum of real numbers read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- Of real vectors the expanded squared distance is the sum of the squared differences. -/
theorem sqDist_coe (a b : Fin 32 → ℝ) :
    sqDist (fun c => (a c : EReal)) (fun c => (b c : EReal)) = ((∑ c, (b c - a c) * (b c - a c) : ℝ) : EReal) := by
  have h : (∑ c, (b c - a c) * (b c - a c)) = ((∑ c, a c * a c) - 2 * ∑ c, a c * b c) + ∑ c, b c * b c := by
    rw [Finset.mul_sum, ← Finset.sum_sub_distrib, ← Finset.sum_add_distrib]
    exact Finset.sum_congr rfl fun c _ => by ring
  rw [h, sqDist]
  simp only [EReal.coe_add, EReal.coe_sub, EReal.coe_mul, coe_sum]
  rfl

/-- A finite extended real is a real number. -/
theorem exists_real {v : EReal} (h : max v (-v) < ⊤) : ∃ r : ℝ, v = r := by
  induction v using EReal.rec with
  | bot => simp at h
  | coe r => exact ⟨r, rfl⟩
  | top => simp at h

end Cert.Nearest

end
-- ==== Proof.Block.lean ====
module

public import proofs.«01_k».proof.Proof.Gen.KernelIdeal.Skeleton
public import proofs.«01_k».proof.Proof.Nearest
public import Idealize.ShloMosaic.Lib.Pointwise

/-! What one block of the kernel computes, read at an index: its rows' distances from the codes, the first nearest
code of each row, the row the block writes and the least distance it writes. -/

@[expose] public section

set_option maxRecDepth 16384

noncomputable section

namespace Cert.KernelIdeal.Value

open Idealize.ShloMosaic Idealize.SL.Sem Cert.KernelIdeal Cert.KernelIdeal.Gen Cert.Nearest

variable (xb : FVec Ideal S256x32 .f32) (w : FVec Ideal S8192x32 .f32) (sx : FVec Ideal S256 .f32) (sw : FVec Ideal S8192 .f32)

/-- The block's distances: row `r` against code `k`, given the squared lengths of both. -/
theorem block_dist (hsx : ∀ r : Fin 256, sx (ix1 r) = ∑ c : Fin 32, xb (ix2 r c) * xb (ix2 r c))
    (hsw : ∀ k : Fin 8192, sw (ix1 k) = ∑ c : Fin 32, w (ix2 k c) * w (ix2 k c)) (r : Fin 256) (k : Fin 8192) :
    k0_pay2 (F := Ideal) xb w sx sw (ix2 r k) = sqDist (fun c => xb (ix2 r c)) (fun c => w (ix2 k c)) := by
  pointwise [k0_pay2, k0_pay1]
  rw [hsx, hsw, two_bits, sqDist]

/-- The least distance of row `r`. -/
theorem block_min (r : Fin 256) (i : Fin 8192) (h : First (fun k => k0_pay2 (F := Ideal) xb w sx sw (ix2 r k)) i) :
    k0_pay3 (F := Ideal) xb w sx sw (ix2 r 0) = k0_pay2 (F := Ideal) xb w sx sw (ix2 r i) := by
  pointwise [k0_pay3]
  rw [top_bits]
  exact h.fold_min

/-- The index the block finds for row `r` is the first nearest code's. -/
theorem block_index (r : Fin 256) (i : Fin 8192) (h : First (fun k => k0_pay2 (F := Ideal) xb w sx sw (ix2 r k)) i) :
    k0_pay4 (F := Ideal) xb w sx sw (ix1 r) = BitVec.ofNat 32 (i : ℕ) := by
  pointwise [k0_pay4]
  rw [block_min xb w sx sw r i h]
  exact h.fold_minsi

/-- The row the block writes: the activation plus the difference of its code from it. -/
theorem block_out (r : Fin 256) (i : Fin 8192) (h : First (fun k => k0_pay2 (F := Ideal) xb w sx sw (ix2 r k)) i)
    (c : Fin 32) :
    k0_pay5 (F := Ideal) xb w sx sw (ix2 r c) = xb (ix2 r c) + (w (ix2 i c) - xb (ix2 r c)) := by
  pointwise [k0_pay5, k0_pay1]
  rw [block_index xb w sx sw r i h]
  exact congrArg (fun s => xb (ix2 r c) + (s - xb (ix2 r c))) (sum_onehot i fun k => w (ix2 k c))

end Cert.KernelIdeal.Value

end
-- ==== Proof.Arrays.lean ====
module

public import proofs.«01_k».proof.Proof.Gen.KernelIdeal.Frame
public import proofs.«01_k».proof.Proof.Block
public import Idealize.ShloMosaic.Lib.Pipeline.ValueKit
public import Idealize.ShloMosaic.Lib.Claim

/-! What the kernel's two used arrays hold after its last block: every row's quantized value and every row's least
distance, as functions of the two arguments. -/

@[expose] public section

set_option maxRecDepth 16384

noncomputable section

namespace Cert.KernelIdeal.Value

open Idealize.ShloMosaic Idealize.ShloMosaic.TcCoe Idealize.SL.Sem Cert.KernelIdeal Cert.KernelIdeal.Gen Cert.Nearest
open Idealize.ShloMosaic.Pipeline (Dat)

/-- The activations as a matrix with one row per position. -/
def rows (x : FVec Ideal S16x32x32x32 .f32) : FVec Ideal S16384x32 .f32 :=
  shapeCast S16384x32 (transpose S16x32x32x32 [0, 2, 3, 1] x transposes_S16x32x32x32_S16x32x32x32_0_2_3_1)
    shapeCasts_S16x32x32x32_S16384x32

/-- The first nearest code of row `n`. -/
def pick (a : FVec Ideal S16384x32 .f32) (w : FVec Ideal S8192x32 .f32) (n : Fin 16384) : Fin 8192 :=
  code (fun c => a (ix2 n c)) fun k c => w (ix2 k c)

/-- Every row plus the difference of its code from it. -/
def outRows (a : FVec Ideal S16384x32 .f32) (w : FVec Ideal S8192x32 .f32) : FVec Ideal S16384x32 .f32 := fun i =>
  a (ix2 (i 0) (i 1)) + (w (ix2 (pick a w (i 0)) (i 1)) - a (ix2 (i 0) (i 1)))

/-- Every row's distance from its code. -/
def leastDist (a : FVec Ideal S16384x32 .f32) (w : FVec Ideal S8192x32 .f32) : FVec Ideal S16384x1 .f32 := fun i =>
  sqDist (fun c => a (ix2 (i 0) c)) fun c => w (ix2 (pick a w (i 0)) c)

/-- Every window's block index at a grid point. -/
theorem idx : ∀ t : Fin cfg0.N, win0_0.index t = ![t.val, 0] ∧ win0_1.index t = ![t.val] ∧ win0_2.index t = ![0]
    ∧ win0_3.index t = ![0, 0] ∧ win0_4.index t = ![t.val, 0] ∧ win0_6.index t = ![t.val, 0] :=
  (by decide +kernel : ∀ t : Fin grid0.N, _)

/-- The grid has 64 points. -/
theorem lt_N (t : Fin cfg0.N) : t.val < 64 :=
  (by decide +kernel : ∀ t : Fin grid0.N, t.val < 64) t

variable (m : (ℓ : Loc nD τ sig) → Buf (Elt Ideal) ℓ)

/-- The kernel's first argument. -/
abbrev argX (c : Dev nD) : FVec Ideal S16x32x32x32 .f32 := m ((c : Thread nD τ).loc main_arg0)

/-- The kernel's second argument. -/
abbrev argW (c : Dev nD) : FVec Ideal S8192x32 .f32 := m ((c : Thread nD τ).loc main_arg1)

/-- The row of the whole matrix that is row `r` of block `t`. -/
def rowAt (t : Fin cfg0.N) (r : Fin 256) : Fin 16384 := ⟨t.val * 256 + r.val, by have := lt_N t; omega⟩

/-- The array of rows when the first block starts. -/
theorem entry_rows (c : Dev nD) : V m c main_v1 = rows (argX m c) := by
  entry_read
  rfl

/-- The array of the rows' squared lengths when the first block starts. -/
theorem entry_rowSq (c : Dev nD) (n : Fin 16384) :
    (V m c main_v3 : FVec Ideal S16384 .f32) (ix1 n)
      = ∑ k : Fin 32, rows (argX m c) (ix2 n k) * rows (argX m c) (ix2 n k) := by
  have h : V m c main_v3 = Host.reduceAdd (mulf (rows (argX m c)) (rows (argX m c))) (constant S_ .f32 0x00000000#32)
      reducesTo_S16384x32_S16384_d1 h_S_ := by
    entry_read
    rfl
  rw [h]
  pointwise

/-- The array of the codes' squared lengths when the first block starts. -/
theorem entry_codeSq (c : Dev nD) (k : Fin 8192) :
    (V m c main_v5 : FVec Ideal S8192 .f32) (ix1 k) = ∑ j : Fin 32, argW m c (ix2 k j) * argW m c (ix2 k j) := by
  have h : V m c main_v5 = Host.reduceAdd (mulf (argW m c) (argW m c)) (constant S_ .f32 0x00000000#32)
      reducesTo_S8192x32_S8192_d1 h_S_ := by
    entry_read
    rfl
  rw [h]
  pointwise

/-- The rows block `t` reads. -/
abbrev rowsAt (c : Dev nD) (t : Fin cfg0.N) : FVec Ideal S256x32 .f32 := iblk m c 0 t

/-- The squared lengths of rows block `t` reads. -/
abbrev rowSqAt (c : Dev nD) (t : Fin cfg0.N) : FVec Ideal S256 .f32 := iblk m c 1 t

/-- The squared lengths of codes block `t` reads. -/
abbrev codeSqAt (c : Dev nD) (t : Fin cfg0.N) : FVec Ideal S8192 .f32 := iblk m c 2 t

/-- The codes block `t` reads. -/
abbrev codesAt (c : Dev nD) (t : Fin cfg0.N) : FVec Ideal S8192x32 .f32 := iblk m c 3 t

/-- A block's rows. -/
theorem blk_rows (c : Dev nD) (t : Fin cfg0.N) (r : Fin 256) (k : Fin 32) :
    rowsAt m c t (ix2 r k) = rows (argX m c) (ix2 (rowAt t r) k) := by
  rw [← entry_rows]
  blk_ext [iblk, idx t, rowAt]

/-- A block's squared lengths of rows. -/
theorem blk_rowSq (c : Dev nD) (t : Fin cfg0.N) (r : Fin 256) :
    rowSqAt m c t (ix1 r)
      = ∑ k : Fin 32, rowsAt m c t (ix2 r k) * rowsAt m c t (ix2 r k) := by
  have e : rowSqAt m c t (ix1 r) = (V m c main_v3 : FVec Ideal S16384 .f32) (ix1 (rowAt t r)) := by
    blk_simp [iblk, idx t]
    generalize V m c main_v3 = a
    blk_ext [idx t, rowAt]
  refine (e.trans (entry_rowSq m c (rowAt t r))).trans (Finset.sum_congr rfl fun k _ => ?_)
  rw [blk_rows]

/-- A block sees the whole codebook. -/
theorem blk_codes (c : Dev nD) (t : Fin cfg0.N) : codesAt m c t = argW m c := by
  blk_ext! [iblk, V, idx t]

/-- A block sees every code's squared length. -/
theorem blk_codeSq (c : Dev nD) (t : Fin cfg0.N) (k : Fin 8192) :
    codeSqAt m c t (ix1 k)
      = ∑ j : Fin 32, codesAt m c t (ix2 k j) * codesAt m c t (ix2 k j) := by
  have e : codeSqAt m c t (ix1 k) = (V m c main_v5 : FVec Ideal S8192 .f32) (ix1 k) := by
    blk_ext [iblk, idx t]
  rw [e, blk_codes]
  exact entry_codeSq m c k

/-- In a block, a row's first nearest code is the one the whole matrix's row has. -/
theorem blk_pick (c : Dev nD) (t : Fin cfg0.N) (r : Fin 256) :
    First (fun k => k0_pay2 (F := Ideal) (rowsAt m c t) (codesAt m c t) (rowSqAt m c t) (codeSqAt m c t) (ix2 r k))
      (pick (rows (argX m c)) (argW m c) (rowAt t r)) := by
  have h := code_first (fun k => rows (argX m c) (ix2 (rowAt t r) k)) fun k j => argW m c (ix2 k j)
  have e : ∀ k, k0_pay2 (F := Ideal) (rowsAt m c t) (codesAt m c t) (rowSqAt m c t) (codeSqAt m c t) (ix2 r k)
      = sqDist (fun k => rows (argX m c) (ix2 (rowAt t r) k)) (fun j => argW m c (ix2 k j)) := fun k => by
    refine (block_dist _ _ _ _ (blk_rowSq m c t) (blk_codeSq m c t) r k).trans ?_
    simp only [blk_rows]
    rw [blk_codes]
  simp only [e]
  exact h

/-- A value of block `t` of the first output. -/
theorem point_out (c : Dev nD) (t : Fin cfg0.N) (r : Fin 256) (k : Fin 32) :
    k0_pay5 (F := Ideal) (rowsAt m c t) (codesAt m c t) (rowSqAt m c t) (codeSqAt m c t) (ix2 r k)
      = outRows (rows (argX m c)) (argW m c) (ix2 (rowAt t r) k) := by
  refine (block_out _ _ _ _ r _ (blk_pick m c t r) k).trans ?_
  rw [blk_rows, blk_codes]
  rfl

/-- A value of block `t` of the distances' output. -/
theorem point_min (c : Dev nD) (t : Fin cfg0.N) (r : Fin 256) :
    k0_pay3 (F := Ideal) (rowsAt m c t) (codesAt m c t) (rowSqAt m c t) (codeSqAt m c t) (ix2 r 0)
      = leastDist (rows (argX m c)) (argW m c) (ix2 (rowAt t r) 0) := by
  refine (block_min _ _ _ _ r _ (blk_pick m c t r)).trans ?_
  refine (block_dist _ _ _ _ (blk_rowSq m c t) (blk_codeSq m c t) r _).trans ?_
  simp only [blk_rows]
  rw [blk_codes]
  rfl

/-- The first output array after the last block. -/
theorem final_out (c : Dev nD) :
    (dats m 0 c).arrAt 4 (cfgs 0).N = outRows (rows (argX m c)) (argW m c) := by
  refine (dats m 0 c).arrAt_eq_of_covers 4 (outRows (rows (argX m c)) (argW m c)) (by decide +kernel) fun t _ y => ?_
  blk_simp
  rw [after0_4]; frame_out
  have hy : y = ix2 (y 0) (y 1) := by ext a; fin_cases a <;> rfl
  rw [hy]
  refine (point_out m c t (y 0) (y 1)).trans ?_
  blk_ext [idx t, rowAt]

/-- The array of least distances after the last block. -/
theorem final_min (c : Dev nD) :
    (dats m 0 c).arrAt 6 (cfgs 0).N = leastDist (rows (argX m c)) (argW m c) := by
  refine (dats m 0 c).arrAt_eq_of_covers 6 (leastDist (rows (argX m c)) (argW m c)) (by decide +kernel) fun t _ y => ?_
  blk_simp
  rw [after0_6]; frame_out
  have hy : y = ix2 (y 0) 0 := by ext a; fin_cases a; rfl; exact Nat.lt_one_iff.mp (y 1).isLt
  rw [hy]
  refine (point_min m c t (y 0)).trans ?_
  blk_ext [idx t, rowAt]

end Cert.KernelIdeal.Value

end
-- ==== Proof.KernelRun.lean ====
module

public import proofs.«01_k».proof.Proof.Arrays

/-! The kernel's run: what its two results hold when it ends, as functions of its two arguments. -/

@[expose] public section

set_option maxRecDepth 16384

noncomputable section

namespace Cert.KernelIdeal.Value

open Idealize.ShloMosaic Idealize.ShloMosaic.TcCoe Idealize.SL.Sem Cert.KernelIdeal Cert.KernelIdeal.Gen Cert.Nearest

/-- The first result, from the quantized rows: the channel axis moved back. -/
def unflatten (o : FVec Ideal S16384x32 .f32) : FVec Ideal S16x32x32x32 .f32 :=
  transpose S16x32x32x32 [0, 3, 1, 2] (shapeCast S16x32x32x32 o shapeCasts_S16384x32_S16x32x32x32)
    transposes_S16x32x32x32_S16x32x32x32_0_3_1_2

/-- The second result, from the least distances: their sum, scaled. -/
def scaledSum (d : FVec Ideal S16384x1 .f32) : FVec Ideal S_ .f32 :=
  mulf (constant S_ .f32 0x36200000#32)
    (Host.reduceAdd d (constant S_ .f32 0x00000000#32) reducesTo_S16384x1_S_d0_1 h_S_)

/-- The kernel's first result. -/
def quantized (x : FVec Ideal S16x32x32x32 .f32) (w : FVec Ideal S8192x32 .f32) : FVec Ideal S16x32x32x32 .f32 :=
  unflatten (outRows (rows x) w)

/-- The kernel's second result. -/
def loss (x : FVec Ideal S16x32x32x32 .f32) (w : FVec Ideal S8192x32 .f32) : FVec Ideal S_ .f32 :=
  scaledSum (leastDist (rows x) w)

variable (m : (ℓ : Loc nD τ sig) → Buf (Elt Ideal) ℓ) (g : Dev nD → PrngReg)

/-- The operations after the blocks, from any contents: the first result. -/
theorem suffix_unflatten (U : Valuation τ sig (Elt Ideal)) :
    StableHlo.after hostOps1 U (Proc.devRef .tc main_v10) = unflatten (U (Proc.devRef .tc main_v6_0)) := by
  unfold hostOps1; after_results; rfl

/-- The operations after the blocks, from any contents: the second result. -/
theorem suffix_scaledSum (U : Valuation τ sig (Elt Ideal)) :
    StableHlo.after hostOps1 U (Proc.devRef .tc main_v8) = scaledSum (U (Proc.devRef .tc main_v6_2)) := by
  unfold hostOps1; after_results; rfl

/-- Each window has an array of its own. -/
theorem arr_inj : Function.Injective (Pipeline.arrRef spec0) := by decide

/-- The first result when the program ends. -/
theorem end_quantized (c : Dev nD) :
    Pipeline.afterTail₀ cfgs (dats m) 0 (V0 m) [hostOps1] c main_v10 = quantized (argX m c) (argW m c) := by
  unfold Pipeline.afterTail₀
  rw [List.flatten_cons, List.flatten_nil, List.append_nil, suffix_unflatten]
  exact congrArg unflatten ((Pipeline.withArrays_arr (cfgs 0).spec arr_inj c (V0 m c) _ 4).trans (final_out m c))

/-- The second result when the program ends. -/
theorem end_loss (c : Dev nD) :
    Pipeline.afterTail₀ cfgs (dats m) 0 (V0 m) [hostOps1] c main_v8 = loss (argX m c) (argW m c) := by
  unfold Pipeline.afterTail₀
  rw [List.flatten_cons, List.flatten_nil, List.append_nil, suffix_scaledSum]
  exact congrArg scaledSum ((Pipeline.withArrays_arr (cfgs 0).spec arr_inj c (V0 m c) _ 6).trans (final_min m c))

/-- The kernel ends with its two results holding `quantized` and `loss` of its arguments, which it leaves as they
    were. -/
theorem run :
    θ_run (defs (F := Ideal)) (onTc (τ := τ) (main (F := Ideal))) ⟨m, fun _ => 0, g⟩ (fun r => ∀ c : Dev nD,
      r.2.mem ((c.tc : Thread nD τ).loc main_v10)
        = quantized (m ((c.tc : Thread nD τ).loc main_arg0)) (m ((c.tc : Thread nD τ).loc main_arg1))
      ∧ r.2.mem ((c.tc : Thread nD τ).loc main_v8)
        = loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c => ⟨((h.1 c).2 main_v10 (Pipeline.mem_restRefs_of main_v10 (by decide) (by decide))).trans (end_quantized m c),
      ((h.1 c).2 main_v8 (Pipeline.mem_restRefs_of main_v8 (by decide) (by decide))).trans (end_loss m c),
      (h.2 c).1, (h.2 c).2⟩)
    (θ_run_and (run_main m g) (unchanged m g))

end Cert.KernelIdeal.Value

end
-- ==== Proof.RefRun.lean ====
module

public import proofs.«01_k».proof.Proof.Gen.ReferenceIdeal
public import Idealize.ShloMosaic.PureOps.Ideal.Laws
public import Idealize.ShloMosaic.Lib.Claim
public import Idealize.ShloMosaic.Lib.Pipeline.Frame
public import Idealize.ShloMosaic.Lib.Quiescent
public import Idealize.ShloMosaic.Lib.StableHlo.RunHlo

/-! The reference program's run: what its two results hold when it ends, as functions of its two arguments. -/

@[expose] public section

set_option maxRecDepth 16384

noncomputable section

namespace Cert.ReferenceIdeal.Value

open Idealize.ShloMosaic Idealize.SL.Sem Cert.ReferenceIdeal Cert.ReferenceIdeal.Gen

/-- The activations with the channel axis moved last. -/
def lastAxis (x : FVec Ideal S16x32x32x32 .f32) : FVec Ideal S16x32x32x32 .f32 :=
  transpose S16x32x32x32 [0, 2, 3, 1] x transposes_S16x32x32x32_S16x32x32x32_0_2_3_1

/-- The activations as a matrix with one row per position. -/
def rows (x : FVec Ideal S16x32x32x32 .f32) : FVec Ideal S16384x32 .f32 :=
  shapeCast S16384x32 (lastAxis x) shapeCasts_S16x32x32x32_S16384x32

/-- The squared distances of every row from every code, expanded. -/
def dist (x : FVec Ideal S16x32x32x32 .f32) (w : FVec Ideal S8192x32 .f32) : FVec Ideal S16384x8192 .f32 :=
  addf
    (subf
      (broadcastInDim S16384x8192 ![0, 1] bcast_S16384x1_S16384x8192_0_1
        (broadcastInDim S16384x1 ![0] bcast_S16384_S16384x1_0
          (Host.reduceAdd (mulf (rows x) (rows x)) (constant S_ .f32 0x00000000#32) reducesTo_S16384x32_S16384_d1 h_S_)))
      (mulf (broadcastInDim S16384x8192 ![] bcast_S_S16384x8192 (constant S_ .f32 0x40000000#32))
        (Host.dotGeneral dot_S16384x32_S32x8192_S16384x8192_1_0_0_1_n_n none (rows x)
          (transpose S32x8192 [1, 0] w transposes_S8192x32_S32x8192_1_0))))
    (broadcastInDim S16384x8192 ![0, 1] bcast_S1x8192_S16384x8192_0_1
      (broadcastInDim S1x8192 ![1] bcast_S8192_S1x8192_1
        (Host.reduceAdd (mulf w w) (constant S_ .f32 0x00000000#32) reducesTo_S8192x32_S8192_d1 h_S_)))

/-- The second of each of a vector's pairs. -/
def seconds (g : S16384.Idx → EReal × BitVec 32) : IVec S16384 32 := fun j => (g j).2

/-- The second of a pair that is known. -/
theorem seconds_of_eq (g : S16384.Idx → EReal × BitVec 32) (j : S16384.Idx) (p : EReal × BitVec 32) (h : g j = p) :
    seconds g j = p.2 := by
  unfold seconds; rw [h]

/-- The index of the nearest code, for a matrix of distances. -/
def nearest (d : FVec Ideal S16384x8192 .f32) : IVec S16384 32 :=
  seconds (Host.argReduce (reducer_argmin_f32_i32 (F := Ideal)) d (iotaInDim S16384x8192 32 1)
    (constant S_ .f32 0x7F800000#32) (constantI S_ 32 0#32) reducesTo_S16384x8192_S16384_d1 h_S_)

/-- A negative index counts from the end; the indices as one column. -/
def column (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 8192#32))) i)

/-- Which rows have an index that names a code. -/
def inRange (k : IVec S16384x1 32) : IVec S16384 1 :=
  Host.reduce IntOp.andi
    (andi (cmpi .sge k (broadcastInDim S16384x1 ![] bcast_S_S16384x1 (constantI S_ 32 0#32)))
      (cmpi .sle k
        (broadcastInDim S16384x1 ![0, 1] bcast_S1x1_S16384x1_0_1
          (broadcastInDim S1x1 ![1] bcast_S1_S1x1_1 (constantI S1 32 8191#32)))))
    (constantI S_ 1 1#1) reducesTo_S16384x1_S16384_d1 h_S_

/-- The rows of the codebook that a column of indices names. -/
def take (w : FVec Ideal S8192x32 .f32) (k : IVec S16384x1 32) : FVec Ideal S16384x32 .f32 :=
  select (broadcastInDim S16384x32 ![0] bcast_S16384_S16384x32_0 (inRange k))
    (Host.gather gather_S8192x32_S16384x1_S16384x32_1_0_n_n_0_1_132 w k)
    (broadcastInDim S16384x32 ![] bcast_S_S16384x32 (constant S_ .f32 0x7FC00000#32))

/-- The first result, from the looked-up rows `t` and the activations with channels last `l`. -/
def straight (t : FVec Ideal S16384x32 .f32) (l : FVec Ideal S16x32x32x32 .f32) : FVec Ideal S16x32x32x32 .f32 :=
  transpose S16x32x32x32 [0, 3, 1, 2]
    (addf l (subf (shapeCast S16x32x32x32 t shapeCasts_S16384x32_S16x32x32x32) l))
    transposes_S16x32x32x32_S16x32x32x32_0_3_1_2

/-- The mean squared difference between the looked-up rows and the activations. -/
def meanSq (t : FVec Ideal S16384x32 .f32) (l : FVec Ideal S16x32x32x32 .f32) : FVec Ideal S_ .f32 :=
  Host.divf
    (Host.reduceAdd
      (mulf (subf (shapeCast S16x32x32x32 t shapeCasts_S16384x32_S16x32x32x32) l)
        (subf (shapeCast S16x32x32x32 t shapeCasts_S16384x32_S16x32x32x32) l))
      (constant S_ .f32 0x00000000#32) reducesTo_S16x32x32x32_S_d0_1_2_3 h_S_)
    (constant S_ .f32 0x49000000#32)

/-- The second result, from the same. -/
def twoMeans (t : FVec Ideal S16384x32 .f32) (l : FVec Ideal S16x32x32x32 .f32) : FVec Ideal S_ .f32 :=
  addf (meanSq t l) (mulf (constant S_ .f32 0x3E800000#32) (meanSq t l))

/-- The nearest code of every position. -/
def codes (x : FVec Ideal S16x32x32x32 .f32) (w : FVec Ideal S8192x32 .f32) : FVec Ideal S16384x32 .f32 :=
  take w (column (nearest (dist x w)))

/-- The reference's first result. -/
def quantized (x : FVec Ideal S16x32x32x32 .f32) (w : FVec Ideal S8192x32 .f32) : FVec Ideal S16x32x32x32 .f32 :=
  straight (codes x w) (lastAxis x)

/-- The reference's second result. -/
def loss (x : FVec Ideal S16x32x32x32 .f32) (w : FVec Ideal S8192x32 .f32) : FVec Ideal S_ .f32 :=
  twoMeans (codes x w) (lastAxis x)

/-! ## The program as five lines of operations -/

/-- The operations that compute the distances. -/
def distLine {F : FTy → Type} [FloatOps F] : List (HloOp τ sig (Elt F)) :=
  [StableHlo.unary main_arg0 main_v0 ((transpose S16x32x32x32 [0, 2, 3, 1] · transposes_S16x32x32x32_S16x32x32x32_0_2_3_1) : (⟨S16x32x32x32, .f32⟩ : BufTy).Contents (Elt F) → (⟨S16x32x32x32, .f32⟩ : BufTy).Contents (Elt F)),
   StableHlo.reshape main_v0 main_v1 (rfl : (.f32 : EltTy) = .f32) shapeCasts_S16x32x32x32_S16384x32,
   StableHlo.binary main_v1 main_v1 main_v2 (mulf : (⟨S16384x32, .f32⟩ : BufTy).Contents (Elt F) → (⟨S16384x32, .f32⟩ : BufTy).Contents (Elt F) → (⟨S16384x32, .f32⟩ : BufTy).Contents (Elt F)),
   StableHlo.nullary main_cst (constant S_ .f32 0x00000000#32),
   StableHlo.binary main_v2 main_cst main_v3 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
   StableHlo.unary main_v3 main_v4 (broadcastInDim S16384x1 ![0] bcast_S16384_S16384x1_0 : (⟨S16384, .f32⟩ : BufTy).Contents (Elt F) → (⟨S16384x1, .f32⟩ : BufTy).Contents (Elt F)),
   StableHlo.unary main_arg1 main_v5 ((transpose S32x8192 [1, 0] · transposes_S8192x32_S32x8192_1_0) : (⟨S8192x32, .f32⟩ : BufTy).Contents (Elt F) → (⟨S32x8192, .f32⟩ : BufTy).Contents (Elt F)),
   StableHlo.binary main_v1 main_v5 main_v6 ((fun l r => Host.dotGeneral dot_S16384x32_S32x8192_S16384x8192_1_0_0_1_n_n none l r) : (⟨S16384x32, .f32⟩ : BufTy).Contents (Elt F) → (⟨S32x8192, .f32⟩ : BufTy).Contents (Elt F) → (⟨S16384x8192, .f32⟩ : BufTy).Contents (Elt F)),
   StableHlo.nullary main_cst_0 (constant S_ .f32 0x40000000#32),
   StableHlo.unary main_cst_0 main_v7 (broadcastInDim S16384x8192 ![] bcast_S_S16384x8192 : (⟨S_, .f32⟩ : BufTy).Contents (Elt F) → (⟨S16384x8192, .f32⟩ : BufTy).Contents (Elt F)),
   StableHlo.binary main_v7 main_v6 main_v8 (mulf : (⟨S16384x8192, .f32⟩ : BufTy).Contents (Elt F) → (⟨S16384x8192, .f32⟩ : BufTy).Contents (Elt F) → (⟨S16384x8192, .f32⟩ : BufTy).Contents (Elt F)),
   StableHlo.unary main_v4 main_v9 (broadcastInDim S16384x8192 ![0, 1] bcast_S16384x1_S16384x8192_0_1 : (⟨S16384x1, .f32⟩ : BufTy).Contents (Elt F) → (⟨S16384x8192, .f32⟩ : BufTy).Contents (Elt F)),
   StableHlo.binary main_v9 main_v8 main_v10 (subf : (⟨S16384x8192, .f32⟩ : BufTy).Contents (Elt F) → (⟨S16384x8192, .f32⟩ : BufTy).Contents (Elt F) → (⟨S16384x8192, .f32⟩ : BufTy).Contents (Elt F)),
   StableHlo.binary main_arg1 main_arg1 main_v11 (mulf : (⟨S8192x32, .f32⟩ : BufTy).Contents (Elt F) → (⟨S8192x32, .f32⟩ : BufTy).Contents (Elt F) → (⟨S8192x32, .f32⟩ : BufTy).Contents (Elt F)),
   StableHlo.nullary main_cst_1 (constant S_ .f32 0x00000000#32),
   StableHlo.binary main_v11 main_cst_1 main_v12 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
   StableHlo.unary main_v12 main_v13 (broadcastInDim S1x8192 ![1] bcast_S8192_S1x8192_1 : (⟨S8192, .f32⟩ : BufTy).Contents (Elt F) → (⟨S1x8192, .f32⟩ : BufTy).Contents (Elt F)),
   StableHlo.unary main_v13 main_v14 (broadcastInDim S16384x8192 ![0, 1] bcast_S1x8192_S16384x8192_0_1 : (⟨S1x8192, .f32⟩ : BufTy).Contents (Elt F) → (⟨S16384x8192, .f32⟩ : BufTy).Contents (Elt F)),
   StableHlo.binary main_v10 main_v14 main_v15 (addf : (⟨S16384x8192, .f32⟩ : BufTy).Contents (Elt F) → (⟨S16384x8192, .f32⟩ : BufTy).Contents (Elt F) → (⟨S16384x8192, .f32⟩ : BufTy).Contents (Elt F))]

/-- The operations of the arg-min. -/
def nearestLine {F : FTy → Type} [FloatOps F] : List (HloOp τ sig (Elt F)) :=
  [StableHlo.TRef.nullary main_call0.v0 (iotaInDim S16384x8192 32 1),
   StableHlo.TRef.nullary main_call0.cst (constant S_ .f32 0x7F800000#32),
   StableHlo.TRef.nullary main_call0.c (constantI S_ 32 0#32),
   StableHlo.TRef.quaternary (.of main_v15) main_call0.v0 main_call0.cst main_call0.c main_call0.v1_0 (fun x y u v j => (Host.argReduce reducer_argmin_f32_i32 x y u v reducesTo_S16384x8192_S16384_d1 h_S_ j).1),
   StableHlo.TRef.quaternary (.of main_v15) main_call0.v0 main_call0.cst main_call0.c main_call0.v1_1 (fun x y u v j => (Host.argReduce reducer_argmin_f32_i32 x y u v reducesTo_S16384x8192_S16384_d1 h_S_ j).2)]

/-- The operations that make the column of indices. -/
def columnLine {F : FTy → Type} [FloatOps F] : List (HloOp τ sig (Elt F)) :=
  [StableHlo.TRef.nullary main_call1.c (constantI S_ 32 0#32),
   StableHlo.TRef.unary main_call1.c main_call1.v0 (broadcastInDim S16384 ![] bcast_S_S16384),
   StableHlo.TRef.binary (.of main_v16) main_call1.v0 main_call1.v1 (cmpi .slt),
   StableHlo.TRef.nullary main_call1.c_0 (constantI S_ 32 8192#32),
   StableHlo.TRef.unary main_call1.c_0 main_call1.v2 (broadcastInDim S16384 ![] bcast_S_S16384),
   StableHlo.TRef.binary (.of main_v16) main_call1.v2 main_call1.v3 addi,
   StableHlo.TRef.ternary main_call1.v1 main_call1.v3 (.of main_v16) main_call1.call0.v0 select,
   StableHlo.TRef.unary main_call1.call0.v0 main_call1.v5 (broadcastInDim S16384x1 ![0] bcast_S16384_S16384x1_0)]

/-- The operations of the row look-up proper. -/
def takeLine {F : FTy → Type} [FloatOps F] : List (HloOp τ sig (Elt F)) :=
  [StableHlo.TRef.nullary main_call1.c_1 (constantI S1 32 8191#32),
   StableHlo.TRef.nullary main_call1.c_2 (constantI S_ 32 0#32),
   StableHlo.TRef.unary main_call1.c_2 main_call1.v6 (broadcastInDim S16384x1 ![] bcast_S_S16384x1),
   StableHlo.TRef.binary main_call1.v5 main_call1.v6 main_call1.v7 (cmpi .sge),
   StableHlo.TRef.unary main_call1.c_1 main_call1.v8 (broadcastInDim S1x1 ![1] bcast_S1_S1x1_1),
   StableHlo.TRef.unary main_call1.v8 main_call1.v9 (broadcastInDim S16384x1 ![0, 1] bcast_S1x1_S16384x1_0_1),
   StableHlo.TRef.binary main_call1.v5 main_call1.v9 main_call1.v10 (cmpi .sle),
   StableHlo.TRef.binary main_call1.v7 main_call1.v10 main_call1.v11 andi,
   StableHlo.TRef.nullary main_call1.c_3 (constantI S_ 1 1#1),
   StableHlo.TRef.binary main_call1.v11 main_call1.c_3 main_call1.v12 (fun x v => Host.reduce IntOp.andi x v reducesTo_S16384x1_S16384_d1 h_S_),
   StableHlo.TRef.binary (.of main_arg1) main_call1.v5 main_call1.v13 (fun x i => Host.gather gather_S8192x32_S16384x1_S16384x32_1_0_n_n_0_1_132 x i),
   StableHlo.TRef.unary main_call1.v12 main_call1.v14 (broadcastInDim S16384x32 ![0] bcast_S16384_S16384x32_0),
   StableHlo.TRef.nullary main_call1.cst (constant S_ .f32 0x7FC00000#32),
   StableHlo.TRef.unary main_call1.cst main_call1.v15 (broadcastInDim S16384x32 ![] bcast_S_S16384x32),
   StableHlo.TRef.ternary main_call1.v14 main_call1.v13 main_call1.v15 main_call1.v16 select]

/-- The operations from the looked-up rows to the two results. -/
def resultLine {F : FTy → Type} [FloatOps F] : List (HloOp τ sig (Elt F)) :=
  [StableHlo.reshape main_v17 main_v18 (rfl : (.f32 : EltTy) = .f32) shapeCasts_S16384x32_S16x32x32x32,
   StableHlo.binary main_v18 main_v0 main_v19 (subf : (⟨S16x32x32x32, .f32⟩ : BufTy).Contents (Elt F) → (⟨S16x32x32x32, .f32⟩ : BufTy).Contents (Elt F) → (⟨S16x32x32x32, .f32⟩ : BufTy).Contents (Elt F)),
   StableHlo.binary main_v19 main_v19 main_v20 (mulf : (⟨S16x32x32x32, .f32⟩ : BufTy).Contents (Elt F) → (⟨S16x32x32x32, .f32⟩ : BufTy).Contents (Elt F) → (⟨S16x32x32x32, .f32⟩ : BufTy).Contents (Elt F)),
   StableHlo.nullary main_cst_2 (constant S_ .f32 0x00000000#32),
   StableHlo.binary main_v20 main_cst_2 main_v21 ((fun x v => Host.reduceAdd x v reducesTo_S16x32x32x32_S_d0_1_2_3 h_S_) : (⟨S16x32x32x32, .f32⟩ : BufTy).Contents (Elt F) → (⟨S_, .f32⟩ : BufTy).Contents (Elt F) → (⟨S_, .f32⟩ : BufTy).Contents (Elt F)),
   StableHlo.nullary main_cst_3 (constant S_ .f32 0x49000000#32),
   StableHlo.binary main_v21 main_cst_3 main_v22 (Host.divf : (⟨S_, .f32⟩ : BufTy).Contents (Elt F) → (⟨S_, .f32⟩ : BufTy).Contents (Elt F) → (⟨S_, .f32⟩ : BufTy).Contents (Elt F)),
   StableHlo.binary main_v18 main_v0 main_v23 (subf : (⟨S16x32x32x32, .f32⟩ : BufTy).Contents (Elt F) → (⟨S16x32x32x32, .f32⟩ : BufTy).Contents (Elt F) → (⟨S16x32x32x32, .f32⟩ : BufTy).Contents (Elt F)),
   StableHlo.binary main_v23 main_v23 main_v24 (mulf : (⟨S16x32x32x32, .f32⟩ : BufTy).Contents (Elt F) → (⟨S16x32x32x32, .f32⟩ : BufTy).Contents (Elt F) → (⟨S16x32x32x32, .f32⟩ : BufTy).Contents (Elt F)),
   StableHlo.nullary main_cst_4 (constant S_ .f32 0x00000000#32),
   StableHlo.binary main_v24 main_cst_4 main_v25 ((fun x v => Host.reduceAdd x v reducesTo_S16x32x32x32_S_d0_1_2_3 h_S_) : (⟨S16x32x32x32, .f32⟩ : BufTy).Contents (Elt F) → (⟨S_, .f32⟩ : BufTy).Contents (Elt F) → (⟨S_, .f32⟩ : BufTy).Contents (Elt F)),
   StableHlo.nullary main_cst_5 (constant S_ .f32 0x49000000#32),
   StableHlo.binary main_v25 main_cst_5 main_v26 (Host.divf : (⟨S_, .f32⟩ : BufTy).Contents (Elt F) → (⟨S_, .f32⟩ : BufTy).Contents (Elt F) → (⟨S_, .f32⟩ : BufTy).Contents (Elt F)),
   StableHlo.nullary main_cst_6 (constant S_ .f32 0x3E800000#32),
   StableHlo.binary main_cst_6 main_v26 main_v27 (mulf : (⟨S_, .f32⟩ : BufTy).Contents (Elt F) → (⟨S_, .f32⟩ : BufTy).Contents (Elt F) → (⟨S_, .f32⟩ : BufTy).Contents (Elt F)),
   StableHlo.binary main_v22 main_v27 main_v28 (addf : (⟨S_, .f32⟩ : BufTy).Contents (Elt F) → (⟨S_, .f32⟩ : BufTy).Contents (Elt F) → (⟨S_, .f32⟩ : BufTy).Contents (Elt F)),
   StableHlo.binary main_v18 main_v0 main_v29 (subf : (⟨S16x32x32x32, .f32⟩ : BufTy).Contents (Elt F) → (⟨S16x32x32x32, .f32⟩ : BufTy).Contents (Elt F) → (⟨S16x32x32x32, .f32⟩ : BufTy).Contents (Elt F)),
   StableHlo.binary main_v0 main_v29 main_v30 (addf : (⟨S16x32x32x32, .f32⟩ : BufTy).Contents (Elt F) → (⟨S16x32x32x32, .f32⟩ : BufTy).Contents (Elt F) → (⟨S16x32x32x32, .f32⟩ : BufTy).Contents (Elt F)),
   StableHlo.unary main_v30 main_v31 ((transpose S16x32x32x32 [0, 3, 1, 2] · transposes_S16x32x32x32_S16x32x32x32_0_3_1_2) : (⟨S16x32x32x32, .f32⟩ : BufTy).Contents (Elt F) → (⟨S16x32x32x32, .f32⟩ : BufTy).Contents (Elt F))]

/-- The whole program, line after line. -/
theorem main_lines (d : Dev nD) :
    StableHlo.IsSeq (main (F := Ideal) d) (distLine ++ (nearestLine ++ (columnLine ++ (takeLine ++ resultLine)))) := by
  unfold distLine nearestLine columnLine takeLine resultLine
  simp only [List.cons_append, List.nil_append]
  hlo_seq

/-! ## What each line leaves -/

variable (V : Valuation τ sig (Elt Ideal))

theorem distLine_dist :
    StableHlo.after distLine V (Proc.devRef .tc main_v15)
      = dist (V (Proc.devRef .tc main_arg0)) (V (Proc.devRef .tc main_arg1)) := by
  unfold distLine; after_results; rfl

theorem distLine_lastAxis :
    StableHlo.after distLine V (Proc.devRef .tc main_v0) = lastAxis (V (Proc.devRef .tc main_arg0)) := by
  unfold distLine; after_results; rfl

theorem distLine_arg0 : StableHlo.after distLine V (Proc.devRef .tc main_arg0) = V (Proc.devRef .tc main_arg0) := by
  unfold distLine; after_results

theorem distLine_arg1 : StableHlo.after distLine V (Proc.devRef .tc main_arg1) = V (Proc.devRef .tc main_arg1) := by
  unfold distLine; after_results

theorem nearestLine_nearest :
    StableHlo.after nearestLine V (Proc.devRef .tc main_v16) = nearest (V (Proc.devRef .tc main_v15)) := by
  unfold nearestLine; after_results; rfl

theorem nearestLine_lastAxis : StableHlo.after nearestLine V (Proc.devRef .tc main_v0) = V (Proc.devRef .tc main_v0) := by
  unfold nearestLine; after_results

theorem nearestLine_arg0 :
    StableHlo.after nearestLine V (Proc.devRef .tc main_arg0) = V (Proc.devRef .tc main_arg0) := by
  unfold nearestLine; after_results

theorem nearestLine_arg1 :
    StableHlo.after nearestLine V (Proc.devRef .tc main_arg1) = V (Proc.devRef .tc main_arg1) := by
  unfold nearestLine; after_results

theorem columnLine_column :
    StableHlo.after columnLine V (Proc.devRef .tc main_call1_v5) = column (V (Proc.devRef .tc main_v16)) := by
  unfold columnLine; after_results; rfl

theorem columnLine_lastAxis : StableHlo.after columnLine V (Proc.devRef .tc main_v0) = V (Proc.devRef .tc main_v0) := by
  unfold columnLine; after_results

theorem columnLine_arg0 : StableHlo.after columnLine V (Proc.devRef .tc main_arg0) = V (Proc.devRef .tc main_arg0) := by
  unfold columnLine; after_results

theorem columnLine_arg1 : StableHlo.after columnLine V (Proc.devRef .tc main_arg1) = V (Proc.devRef .tc main_arg1) := by
  unfold columnLine; after_results

theorem takeLine_take :
    StableHlo.after takeLine V (Proc.devRef .tc main_v17)
      = take (V (Proc.devRef .tc main_arg1)) (V (Proc.devRef .tc main_call1_v5)) := by
  unfold takeLine; after_results; simp only [StableHlo.TRef.ofBuf_toBuf]; unfold take inRange; congr 1

theorem takeLine_lastAxis : StableHlo.after takeLine V (Proc.devRef .tc main_v0) = V (Proc.devRef .tc main_v0) := by
  unfold takeLine; after_results

theorem takeLine_arg0 : StableHlo.after takeLine V (Proc.devRef .tc main_arg0) = V (Proc.devRef .tc main_arg0) := by
  unfold takeLine; after_results

theorem takeLine_arg1 : StableHlo.after takeLine V (Proc.devRef .tc main_arg1) = V (Proc.devRef .tc main_arg1) := by
  unfold takeLine; after_results

theorem resultLine_straight :
    StableHlo.after resultLine V (Proc.devRef .tc main_v31)
      = straight (V (Proc.devRef .tc main_v17)) (V (Proc.devRef .tc main_v0)) := by
  unfold resultLine; after_results; rfl

theorem resultLine_twoMeans :
    StableHlo.after resultLine V (Proc.devRef .tc main_v28)
      = twoMeans (V (Proc.devRef .tc main_v17)) (V (Proc.devRef .tc main_v0)) := by
  unfold resultLine; after_results; rfl

theorem resultLine_arg0 : StableHlo.after resultLine V (Proc.devRef .tc main_arg0) = V (Proc.devRef .tc main_arg0) := by
  unfold resultLine; after_results

theorem resultLine_arg1 : StableHlo.after resultLine V (Proc.devRef .tc main_arg1) = V (Proc.devRef .tc main_arg1) := by
  unfold resultLine; after_results

variable (m : (ℓ : Loc nD τ sig) → Buf (Elt Ideal) ℓ) (g : Dev nD → PrngReg)

/-- The reference ends with its two results holding `quantized` and `loss` of its arguments, which it leaves as
    they were. -/
theorem run :
    θ_run (defs (F := Ideal)) (onTc (τ := τ) (main (F := Ideal))) ⟨m, fun _ => 0, g⟩ (fun r => ∀ c : Dev nD,
      r.2.mem ((c.tc : Thread nD τ).loc main_v31)
        = quantized (m ((c.tc : Thread nD τ).loc main_arg0)) (m ((c.tc : Thread nD τ).loc main_arg1))
      ∧ r.2.mem ((c.tc : Thread nD τ).loc main_v28)
        = loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine θ_run_mono (StableHlo.run_hlo _ _ main_lines (by decide) (by decide)
    (by simp [distLine, nearestLine, columnLine, takeLine, resultLine])
    (by
      unfold distLine nearestLine columnLine takeLine resultLine
      intro _ h
      (repeat (cases h with | head => rfl | tail _ h => ?_)); exact nomatch h) m g) fun r h c => ?_
  refine ⟨?_, ?_, ?_, ?_⟩
  · rw [h, StableHlo.after_append, StableHlo.after_append, StableHlo.after_append, StableHlo.after_append, resultLine_straight, takeLine_take,
      takeLine_lastAxis, columnLine_column, columnLine_lastAxis, columnLine_arg1, nearestLine_nearest, nearestLine_lastAxis, nearestLine_arg1, distLine_dist, distLine_lastAxis,
      distLine_arg1]
    rfl
  · rw [h, StableHlo.after_append, StableHlo.after_append, StableHlo.after_append, StableHlo.after_append, resultLine_twoMeans, takeLine_take,
      takeLine_lastAxis, columnLine_column, columnLine_lastAxis, columnLine_arg1, nearestLine_nearest, nearestLine_lastAxis, nearestLine_arg1, distLine_dist, distLine_lastAxis,
      distLine_arg1]
    rfl
  · rw [h, StableHlo.after_append, StableHlo.after_append, StableHlo.after_append, StableHlo.after_append, resultLine_arg0, takeLine_arg0, columnLine_arg0,
      nearestLine_arg0, distLine_arg0]
  · rw [h, StableHlo.after_append, StableHlo.after_append, StableHlo.after_append, StableHlo.after_append, resultLine_arg1, takeLine_arg1, columnLine_arg1,
      nearestLine_arg1, distLine_arg1]

/-- The reference leaves its arguments as they were and every semaphore counter at zero. -/
theorem frame :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run m g) fun r h => ⟨fun c => (h c).2.2, sem_eq_zero_of_no_sems (by decide) r.2⟩

end Cert.ReferenceIdeal.Value

end
-- ==== Proof.ArgMin.lean ====
module

public import proofs.«01_k».proof.Proof.Nearest
public import Idealize.ShloMosaic.Lib.Pointwise

/-! An arg-min along the rows of a matrix, as a left fold over a row's pairs of a value and its index. -/

@[expose] public section

noncomputable section

namespace Cert.Nearest

open Idealize.ShloMosaic

/-- The pairs of row `n`: each value of the row with its index. -/
theorem mem_row {a b : ℕ} (h : Shape.ReducesTo ⟨2, ![a, b]⟩ [1] ⟨1, ![a]⟩) (d : FVec Ideal ⟨2, ![a, b]⟩ .f32) (n : Fin a)
    (q : EReal × BitVec 32) :
    q ∈ Host.argReduceFiber d (iotaInDim ⟨2, ![a, b]⟩ 32 1) h (ix1 n)
      ↔ ∃ k : Fin b, q = (d (ix2 n k), BitVec.ofNat 32 (k : ℕ)) := by
  have hd : ∀ y : (⟨2, ![a, b]⟩ : Shape).Idx, ((h.drop y 0 : Fin _) : ℕ) = (y 0 : Fin _) := fun y =>
    Shape.ReducesTo.drop_apply_val_of_eq h y 0 0 Nat.one_pos rfl
  simp only [Host.argReduceFiber, List.mem_map, List.mem_filter, List.mem_finRange, true_and, decide_eq_true_eq]
  constructor
  · rintro ⟨z, hz, rfl⟩
    generalize (Shape.rowMajor ⟨2, ![a, b]⟩).symm z = y at hz ⊢
    have h0 : ((y 0 : Fin _) : ℕ) = n := by
      rw [← hd y, hz]
      rfl
    obtain ⟨p, k, rfl⟩ : ∃ (p : Fin a) (k : Fin b), y = ix2 p k :=
      ⟨y 0, y 1, by ext i; fin_cases i <;> rfl⟩
    obtain rfl : p = n := Fin.ext h0
    exact ⟨k, rfl⟩
  · rintro ⟨k, rfl⟩
    refine ⟨(Shape.rowMajor ⟨2, ![a, b]⟩) (ix2 n k), ?_, ?_⟩
    · rw [Equiv.symm_apply_apply]
      ext i
      fin_cases i
      exact hd (ix2 n k)
    · rw [Equiv.symm_apply_apply]
      rfl

/-- A fold that keeps the pair that comes first, from positive infinity and index zero, over a row's pairs: the
    first least value of the row and its index. -/
theorem foldl_row {b : ℕ} [NeZero b] (hb : b < 2147483648) (D : Fin b → EReal) (i : Fin b) (h : First D i)
    (f : EReal × BitVec 32 → EReal × BitVec 32 → EReal × BitVec 32)
    (hf : ∀ p q, f p q = p ∧ (Beats p q ∨ p = q) ∨ f p q = q ∧ ¬ Beats p q)
    (l : List (EReal × BitVec 32)) (hl : ∀ q, q ∈ l ↔ ∃ k : Fin b, q = (D k, BitVec.ofNat 32 (k : ℕ))) :
    l.foldl f (⊤, 0#32) = (D i, BitVec.ofNat 32 (i : ℕ)) := by
  refine foldl_keeps f Beats (fun p q => ?_) _ (fun q hq => ?_) (fun p hp => ?_) l _
    (Or.inr ((hl _).mpr ⟨i, rfl⟩)) fun q hq => ?_
  · rcases hf p q with h | h
    · exact Or.inl h.1
    · exact Or.inr h.1
  · rcases hf (D i, BitVec.ofNat 32 (i : ℕ)) q with h | h
    · exact h.1
    · exact absurd hq h.2
  · rcases hf p (D i, BitVec.ofNat 32 (i : ℕ)) with h | h
    · rcases h.2 with hb | hb
      · rcases hp with hp | hp <;> rcases hb with hb | hb
        · exact absurd hb hp.not_gt
        · exact absurd hb.1 hp.ne'
        · exact absurd hb hp.1.not_gt
        · exact absurd hb.2 (by omega)
      · exact h.1.trans hb
    · exact h.1
  · rcases hq with rfl | hq
    · rcases lt_or_eq_of_le (le_top : D i ≤ ⊤) with ht | ht
      · exact Or.inr (Or.inl ht)
      · have h0 : i = 0 := Fin.le_zero_iff'.mp (h.first 0 (le_antisymm (ht ▸ le_top) (h.least 0)))
        left
        rw [ht, h0]
        simp
    · obtain ⟨k, rfl⟩ := (hl q).mp hq
      rcases lt_or_eq_of_le (h.least k) with hlt | heq
      · exact Or.inr (Or.inl hlt)
      · rcases lt_or_eq_of_le (h.first k heq.symm) with hlt | rfl
        · refine Or.inr (Or.inr ⟨heq, ?_⟩)
          rw [toInt_ofNat (by omega), toInt_ofNat (by omega)]
          exact_mod_cast hlt
        · exact Or.inl rfl

end Cert.Nearest

end
-- ==== Proof.RefArgMin.lean ====
module

public import proofs.«01_k».proof.Proof.RefRun
public import proofs.«01_k».proof.Proof.ArgMin

/-! The index the reference's arg-min finds. -/

@[expose] public section

set_option maxRecDepth 16384

noncomputable section

namespace Cert.ReferenceIdeal.Value

open Idealize.ShloMosaic Idealize.SL.Sem Cert.ReferenceIdeal Cert.ReferenceIdeal.Gen Cert.Nearest

/-- The arg-min's step keeps the pair that comes first, or the second where that is the one. -/
theorem reducer_eq (a b : EReal × BitVec 32) :
    reducer_argmin_f32_i32 (F := Ideal) a b = a ∧ (Beats a b ∨ a = b)
      ∨ reducer_argmin_f32_i32 (F := Ideal) a b = b ∧ ¬ Beats a b := by
  obtain ⟨a1, a2⟩ := a
  obtain ⟨b1, b2⟩ := b
  simp only [reducer_argmin_f32_i32, Ideal.cmpf_def, Ideal.cmp, IntOp.cmpi, BitVec.slt, Beats, IntOp.ori, IntOp.andi,
    Scalar.select]
  rcases lt_trichotomy a1 b1 with h | h | h
  · simp [h, h.ne]
  · subst h
    by_cases h2 : a2.toInt < b2.toInt
    · simp [h2]
    · simp [h2]
  · simp [h.not_gt, h.ne', h.ne]

/-- The pair the fold starts from. -/
theorem start_pair :
    (((constant S_ .f32 0x7F800000#32 : FVec Ideal S_ .f32) (Shape.Idx.first h_S_), constantI S_ 32 0#32 (Shape.Idx.first h_S_))
      : EReal × BitVec 32) = (⊤, 0#32) :=
  Prod.ext top_bits rfl

/-- A row's pairs. -/
theorem mem_fiber (d : FVec Ideal S16384x8192 .f32) (n : Fin 16384) (q : EReal × BitVec 32) :
    q ∈ Host.argReduceFiber d (iotaInDim S16384x8192 32 1) reducesTo_S16384x8192_S16384_d1 (ix1 n)
      ↔ ∃ k : Fin 8192, q = (d (ix2 n k), BitVec.ofNat 32 (k : ℕ)) :=
  mem_row reducesTo_S16384x8192_S16384_d1 d n q

/-- The arg-min of row `n` as a fold over its pairs. -/
theorem argMin_fold (d : FVec Ideal S16384x8192 .f32) (n : Fin 16384) :
    Host.argReduce (reducer_argmin_f32_i32 (F := Ideal)) d (iotaInDim S16384x8192 32 1)
        (constant S_ .f32 0x7F800000#32) (constantI S_ 32 0#32) reducesTo_S16384x8192_S16384_d1 h_S_ (ix1 n)
      = (Host.argReduceFiber d (iotaInDim S16384x8192 32 1) reducesTo_S16384x8192_S16384_d1 (ix1 n)).foldl
          (reducer_argmin_f32_i32 (F := Ideal)) (⊤, 0#32) := by
  rw [Ideal.argReduce_eq_reduce2, Host.reduce2_eq_foldl_fiber, start_pair]

/-- The index found for row `n` is that of its first least distance. -/
theorem nearest_at (d : FVec Ideal S16384x8192 .f32) (n : Fin 16384) (i : Fin 8192)
    (h : First (fun k => d (ix2 n k)) i) : nearest d (ix1 n) = BitVec.ofNat 32 (i : ℕ) :=
  seconds_of_eq _ _ _ ((argMin_fold d n).trans
    (foldl_row (by norm_num) (fun k => d (ix2 n k)) i h _ reducer_eq _ (mem_fiber d n)))

end Cert.ReferenceIdeal.Value

end
-- ==== Proof.RefAt.lean ====
module

public import proofs.«01_k».proof.Proof.RefRun
public import proofs.«01_k».proof.Proof.RefArgMin
public import Idealize.ShloMosaic.Lib.Pointwise
public import Idealize.ShloMosaic.Lib.ReduceAll

/-! What the reference computes, read at an index: its distances, the index its arg-min finds and the rows it looks
up. -/

@[expose] public section

set_option maxRecDepth 16384

noncomputable section

namespace Cert.ReferenceIdeal.Value

open Idealize.ShloMosaic Idealize.SL.Sem Cert.ReferenceIdeal Cert.ReferenceIdeal.Gen Cert.Nearest

variable (x : FVec Ideal S16x32x32x32 .f32) (w : FVec Ideal S8192x32 .f32)

/-- A distance: row `n` against code `k`. -/
theorem dist_at (n : Fin 16384) (k : Fin 8192) :
    dist x w (ix2 n k) = sqDist (fun c => rows x (ix2 n c)) fun c => w (ix2 k c) := by
  pointwise [dist]
  rw [two_bits, sqDist]

/-! ## The lookup -/

/-- The column holds an index that is not negative as it is. -/
theorem column_at (j : IVec S16384 32) (n : Fin 16384) (i : Fin 8192) (h : j (ix1 n) = BitVec.ofNat 32 (i : ℕ)) :
    column j (ix2 n 0) = BitVec.ofNat 32 (i : ℕ) := by
  pointwise [column]
  rw [h]
  have hs : IntOp.cmpi .slt (BitVec.ofNat 32 (i : ℕ)) 0#32 = 0#1 := by
    simp only [IntOp.cmpi, BitVec.slt, toInt_ofNat (show (i : ℕ) < 2147483648 by omega)]
    have : ¬ ((i : ℕ) : ℤ) < (0#32).toInt := by
      have : (0#32).toInt = 0 := by decide
      omega
    rw [decide_eq_false this]
    rfl
  rw [hs]
  rfl

/-- An index below the number of codes names a code. -/
theorem inRange_at (k : IVec S16384x1 32) (n : Fin 16384) (i : Fin 8192) (h : k (ix2 n 0) = BitVec.ofNat 32 (i : ℕ)) :
    inRange k (ix1 n) = 1#1 := by
  pointwise [inRange]
  have hi := i.isLt
  have h0 : (0#32).toInt = 0 := by decide
  have h1 : (8191#32).toInt = 8191 := by decide
  have hge : IntOp.cmpi .sge (BitVec.ofNat 32 (i : ℕ)) 0#32 = 1#1 := by
    simp only [IntOp.cmpi, BitVec.sle, toInt_ofNat (show (i : ℕ) < 2147483648 by omega), h0]
    simp
  have hle : IntOp.cmpi .sle (BitVec.ofNat 32 (i : ℕ)) 8191#32 = 1#1 := by
    simp only [IntOp.cmpi, BitVec.sle, toInt_ofNat (show (i : ℕ) < 2147483648 by omega), h1]
    have : ((i : ℕ) : ℤ) ≤ 8191 := by omega
    simp [this]
  have hu : (Finset.univ : Finset (Fin 1)) = {0} := rfl
  refine (congrArg (Finset.fold IntOp.andi 1#1 _) hu).trans (Finset.fold_singleton.trans ?_)
  rw [h, hge, hle]
  rfl

/-- The gather reads the row of codes its column names. -/
theorem gather_at (k : IVec S16384x1 32) (n : Fin 16384) (c : Fin 32) (i : Fin 8192)
    (h : k (ix2 n 0) = BitVec.ofNat 32 (i : ℕ)) :
    Host.gather gather_S8192x32_S16384x1_S16384x32_1_0_n_n_0_1_132 w k (ix2 n c) = w (ix2 i c) := by
  unfold Host.gather
  congr 1
  funext a
  refine Fin.ext ?_
  show GatherDims.start _ (ix2 n c) k a + GatherDims.batchCoord _ (ix2 n c) a + GatherDims.offCoord _ (ix2 n c) a = _
  have h01 : a = 0 ∨ a = 1 := by
    match a with
    | ⟨0, _⟩ => exact Or.inl rfl
    | ⟨1, _⟩ => exact Or.inr rfl
  rw [GatherDims.batchCoord_eq_zero _ _ _ (by exact List.not_mem_nil)]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (by exact List.mem_singleton.mpr rfl)]
    have hsi : ∀ z, gather_S8192x32_S16384x1_S16384x32_1_0_n_n_0_1_132.siIdx (ix2 n c) z = ix2 n 0 := fun z => by
      funext b
      refine Fin.ext ?_
      match b with
      | ⟨0, _⟩ => rfl
      | ⟨1, _⟩ => exact Nat.lt_one_iff.mp (Fin.isLt _)
    rw [hsi, h, toInt_ofNat (by omega)]
    show min (i : ℕ) 8191 = i
    omega
  · have hs : GatherDims.start gather_S8192x32_S16384x1_S16384x32_1_0_n_n_0_1_132 (ix2 n c) k 1 = 0 := by
      unfold GatherDims.start
      rw [dif_neg (by decide)]
    rw [hs]
    simp only [Nat.zero_add]
    rfl

/-- A looked-up row. -/
theorem take_at (k : IVec S16384x1 32) (n : Fin 16384) (c : Fin 32) (i : Fin 8192)
    (h : k (ix2 n 0) = BitVec.ofNat 32 (i : ℕ)) : take w k (ix2 n c) = w (ix2 i c) := by
  pointwise [take]
  rw [inRange_at k n i h, gather_at w k n c i h]
  rfl

/-- The code looked up for row `n` is its first nearest one. -/
theorem codes_at (n : Fin 16384) (c : Fin 32) :
    codes x w (ix2 n c) = w (ix2 (code (fun c => rows x (ix2 n c)) fun k c => w (ix2 k c)) c) := by
  refine take_at w _ n c _ (column_at _ n _ (nearest_at _ n _ ?_))
  simp only [dist_at]
  exact code_first (fun c => rows x (ix2 n c)) fun k c => w (ix2 k c)

end Cert.ReferenceIdeal.Value

end
-- ==== Proof.Equation.lean ====
module

public import proofs.«01_k».proof.Proof.KernelRun
public import proofs.«01_k».proof.Proof.RefAt
public import proofs.«01_k».proof.Pre_finite

/-! The two programs compute the same two results: the quantized activations for every argument, the loss for
finite ones. -/

@[expose] public section

set_option maxRecDepth 16384

noncomputable section

namespace Cert.Equation

open Idealize.ShloMosaic Cert.Nearest
open Cert.ReferenceIdeal (S_ S16x32x32x32 S16384x32 S8192x32)

/-! ## Arrays of the two programs -/

/-- Both programs lay the activations out as the same matrix. -/
theorem rows_eq (x : FVec Ideal S16x32x32x32 .f32) : KernelIdeal.Value.rows x = ReferenceIdeal.Value.rows x := rfl

/-- The kernel's quantized rows are the rows plus their codes' difference from them. -/
theorem outRows_eq (x : FVec Ideal S16x32x32x32 .f32) (w : FVec Ideal S8192x32 .f32) (i : S16384x32.Idx) :
    KernelIdeal.Value.outRows (KernelIdeal.Value.rows x) w i
      = ReferenceIdeal.Value.rows x i + (ReferenceIdeal.Value.codes x w i - ReferenceIdeal.Value.rows x i) := by
  obtain ⟨n, c, rfl⟩ : ∃ (n : Fin 16384) (c : Fin 32), i = ix2 n c := ⟨i 0, i 1, by ext a; fin_cases a <;> rfl⟩
  rw [ReferenceIdeal.Value.codes_at, rows_eq]
  rfl

/-- A row-major rearrangement and the one back leave an index as it was. -/
theorem reshape_back {s t : Shape} (h : s.numel = t.numel) (h' : t.numel = s.numel) (j : s.Idx) :
    Shape.reshapeEquiv h' (Shape.reshapeEquiv h j) = j := by
  simp [Shape.reshapeEquiv]

/-- The matrix of rows, back in the shape of the activations, is the activations with channels last. -/
theorem lastAxis_eq (x : FVec Ideal S16x32x32x32 .f32) (j : S16x32x32x32.Idx) :
    ReferenceIdeal.Value.rows x
        (Shape.reshapeEquiv ReferenceIdeal.Gen.shapeCasts_S16384x32_S16x32x32x32 j) = ReferenceIdeal.Value.lastAxis x j :=
  congrArg (ReferenceIdeal.Value.lastAxis x) (reshape_back _ _ j)

/-! ## The first result -/

/-- The first results agree, for every argument. -/
theorem quantized_eq (x : FVec Ideal S16x32x32x32 .f32) (w : FVec Ideal S8192x32 .f32) :
    KernelIdeal.Value.quantized x w = ReferenceIdeal.Value.quantized x w := by
  have h : shapeCast S16x32x32x32 (KernelIdeal.Value.outRows (KernelIdeal.Value.rows x) w)
        ReferenceIdeal.Gen.shapeCasts_S16384x32_S16x32x32x32
      = addf (ReferenceIdeal.Value.lastAxis x)
          (subf (shapeCast S16x32x32x32 (ReferenceIdeal.Value.codes x w)
            ReferenceIdeal.Gen.shapeCasts_S16384x32_S16x32x32x32) (ReferenceIdeal.Value.lastAxis x)) := by
    funext j
    refine (outRows_eq x w _).trans ?_
    rw [lastAxis_eq]
    rfl
  exact congrArg (fun t => transpose S16x32x32x32 [0, 3, 1, 2] t
    ReferenceIdeal.Gen.transposes_S16x32x32x32_S16x32x32x32_0_3_1_2) h

/-! ## The second result -/

/-- The sum of the squared differences, one term for each entry of the activations, is the sum over the rows. -/
theorem sum_sq (x : FVec Ideal S16x32x32x32 .f32) (t : FVec Ideal S16384x32 .f32) :
    (∑ j : S16x32x32x32.Idx,
        mulf (subf (shapeCast S16x32x32x32 t ReferenceIdeal.Gen.shapeCasts_S16384x32_S16x32x32x32)
            (ReferenceIdeal.Value.lastAxis x))
          (subf (shapeCast S16x32x32x32 t ReferenceIdeal.Gen.shapeCasts_S16384x32_S16x32x32x32)
            (ReferenceIdeal.Value.lastAxis x)) j : EReal)
      = ∑ n : Fin 16384, ∑ c : Fin 32, (t (ix2 n c) - ReferenceIdeal.Value.rows x (ix2 n c))
          * (t (ix2 n c) - ReferenceIdeal.Value.rows x (ix2 n c)) := by
  have h : ∀ i : S16384x32.Idx → EReal, ∑ j : S16x32x32x32.Idx,
      i (Shape.reshapeEquiv ReferenceIdeal.Gen.shapeCasts_S16384x32_S16x32x32x32 j) = ∑ k, i k := fun i =>
    Equiv.sum_comp (Shape.reshapeEquiv ReferenceIdeal.Gen.shapeCasts_S16384x32_S16x32x32x32) i
  refine Eq.trans ?_ ((h fun k => (t k - ReferenceIdeal.Value.rows x k) * (t k - ReferenceIdeal.Value.rows x k)).trans
    (sum_idx2 _))
  refine Finset.sum_congr rfl fun j _ => ?_
  rw [lastAxis_eq]
  rfl

/-- A mean of squares, from its sum. -/
theorem meanSq_at (x : FVec Ideal S16x32x32x32 .f32) (t : FVec Ideal S16384x32 .f32) (j : S_.Idx) (T : ℝ)
    (hT : ∑ n : Fin 16384, ∑ c : Fin 32, (t (ix2 n c) - ReferenceIdeal.Value.rows x (ix2 n c))
          * (t (ix2 n c) - ReferenceIdeal.Value.rows x (ix2 n c)) = (T : EReal)) :
    ReferenceIdeal.Value.meanSq t (ReferenceIdeal.Value.lastAxis x) j = ((T / 524288 : ℝ) : EReal) := by
  have hs : Host.reduceAdd
      (mulf (subf (shapeCast S16x32x32x32 t ReferenceIdeal.Gen.shapeCasts_S16384x32_S16x32x32x32) (ReferenceIdeal.Value.lastAxis x))
        (subf (shapeCast S16x32x32x32 t ReferenceIdeal.Gen.shapeCasts_S16384x32_S16x32x32x32) (ReferenceIdeal.Value.lastAxis x)))
      (constant S_ .f32 0x00000000#32 : FVec Ideal S_ .f32) ReferenceIdeal.Gen.reducesTo_S16x32x32x32_S_d0_1_2_3
      ReferenceIdeal.Gen.h_S_ j = (T : EReal) := by
    refine (Ideal.hostReduceAdd_total _ (fun b => b.elim0) _ _ j).trans ?_
    rw [sum_sq, hT]
    refine (congrArg (· + (T : EReal)) Ideal.ofBits_zero_f32).trans (zero_add _)
  show Ideal.div _ (Ideal.ofBits .f32 0x49000000#32) = _
  rw [hs, count_bits, Ideal.div, if_neg (by exact_mod_cast (by norm_num : (524288 : ℝ) ≠ 0)), div_eq_mul_inv,
    EReal.coe_mul, EReal.coe_inv]

/-- The second results agree, for finite arguments: a row's least distance is the sum of its squared differences from
    its code. -/
theorem loss_eq (x : FVec Ideal S16x32x32x32 .f32) (w : FVec Ideal S8192x32 .f32)
    (hx : ∀ i, max (x i : EReal) (-(x i)) < ⊤) (hw : ∀ i, max (w i : EReal) (-(w i)) < ⊤) :
    KernelIdeal.Value.loss x w = ReferenceIdeal.Value.loss x w := by
  have hr : ∀ (n : Fin 16384) (c : Fin 32), ∃ r : ℝ, (ReferenceIdeal.Value.rows x (ix2 n c) : EReal) = r := fun n c =>
    exists_real (hx _)
  have hv : ∀ (k : Fin 8192) (c : Fin 32), ∃ r : ℝ, (w (ix2 k c) : EReal) = r := fun k c => exists_real (hw _)
  choose a ha using hr
  choose b hb using hv
  let p : Fin 16384 → Fin 8192 := KernelIdeal.Value.pick (KernelIdeal.Value.rows x) w
  let T : ℝ := ∑ n : Fin 16384, ∑ c : Fin 32, (b (p n) c - a n c) * (b (p n) c - a n c)
  have hcode : ∀ n c, (ReferenceIdeal.Value.codes x w (ix2 n c) : EReal) = b (p n) c := fun n c =>
    (ReferenceIdeal.Value.codes_at x w n c).trans (hb _ _)
  have hT : ∑ n : Fin 16384, ∑ c : Fin 32,
      (ReferenceIdeal.Value.codes x w (ix2 n c) - ReferenceIdeal.Value.rows x (ix2 n c))
        * (ReferenceIdeal.Value.codes x w (ix2 n c) - ReferenceIdeal.Value.rows x (ix2 n c)) = (T : EReal) := by
    simp only [T, coe_sum, EReal.coe_mul, EReal.coe_sub, hcode, ha]
  have hmin : ∀ n : Fin 16384, (KernelIdeal.Value.leastDist (KernelIdeal.Value.rows x) w (ix2 n 0) : EReal)
      = ((∑ c : Fin 32, (b (p n) c - a n c) * (b (p n) c - a n c) : ℝ) : EReal) := fun n => by
    rw [← sqDist_coe]
    exact congrArg₂ sqDist (funext fun c => ha n c) (funext fun c => hb (p n) c)
  have hsum : ∀ j : S_.Idx, Host.reduceAdd (KernelIdeal.Value.leastDist (KernelIdeal.Value.rows x) w)
      (constant S_ .f32 0x00000000#32 : FVec Ideal S_ .f32) KernelIdeal.Gen.reducesTo_S16384x1_S_d0_1
      KernelIdeal.Gen.h_S_ j = (T : EReal) := fun j => by
    refine (Ideal.hostReduceAdd_total _ (fun b => b.elim0) _ _ j).trans ?_
    rw [sum_idx2]
    refine (congrArg₂ (· + ·) Ideal.ofBits_zero_f32 (?_ : _ = (T : EReal))).trans (zero_add _)
    simp only [T, coe_sum (Finset.univ : Finset (Fin 16384))]
    exact Finset.sum_congr rfl fun n _ => (Fin.sum_univ_one _).trans (hmin n)
  funext j
  have hm := meanSq_at x (ReferenceIdeal.Value.codes x w) j T hT
  show Ideal.ofBits .f32 0x36200000#32 * _
    = ReferenceIdeal.Value.meanSq (ReferenceIdeal.Value.codes x w) (ReferenceIdeal.Value.lastAxis x) j
      + Ideal.ofBits .f32 0x3E800000#32
        * ReferenceIdeal.Value.meanSq (ReferenceIdeal.Value.codes x w) (ReferenceIdeal.Value.lastAxis x) j
  rw [hsum, hm, scale_bits, quarter_bits, ← EReal.coe_mul, ← EReal.coe_mul, ← EReal.coe_add]
  exact congrArg _ (by ring)

/-! ## The precondition -/

/-- Its side conditions. -/
theorem finite_facts : Cert.Pre_finite.Facts := by
  constructor <;> decide

/-- Where the precondition holds every entry of both arguments is finite. -/
theorem finite_entries [Cert.Pre_finite.Facts] (x : FVec Ideal S16x32x32x32 .f32) (w : FVec Ideal S8192x32 .f32)
    (h : Cert.Pre_finite.fn (F := Ideal) x w = fun _ => 1#1) :
    (∀ i, max (x i : EReal) (-(x i)) < ⊤) ∧ ∀ i, max (w i : EReal) (-(w i)) < ⊤ := by
  have h0 := congrFun h ix0
  obtain ⟨hx, hw⟩ := IntOp.andi_eq_one.1 h0
  haveI : Subsingleton Cert.Pre_finite.S_.Idx := ⟨fun a b => funext fun i => i.elim0⟩
  have lt : ∀ v : EReal, Ideal.cmp .olt (max v (-v)) (Ideal.ofBits .f32 2139095040#32) = 1#1 → max v (-v) < ⊤ :=
    fun v hv => by
      rw [top_bits] at hv
      by_contra hn
      rw [Ideal.cmp] at hv
      simp only [decide_eq_false hn] at hv
      exact absurd hv (by decide)
  exact ⟨fun i => lt _ (Host.reduce_andi_all _ _ _ _ _ hx i), fun i => lt _ (Host.reduce_andi_all _ _ _ _ _ hw i)⟩

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The side conditions of the mask. -/
theorem quantized_facts : Cert.On_quantized.Facts := by
  constructor; decide

/-- The kernel and the reference end with equal results where both arguments are finite. -/
theorem both_results :
    algebraic_KernelIdeal_ReferenceIdeal_pre_finite (hKernelIdeal := Cert.KernelIdeal.Gen.facts)
      (hReferenceIdeal := Cert.ReferenceIdeal.Gen.facts) (hPre_finite := Cert.Equation.finite_facts) := by
  intro m g m' g' hpre hagree
  refine ⟨fun c => Cert.KernelIdeal.Value.quantized (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.KernelIdeal.Value.loss (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Value.run m g, θ_run_mono (Cert.ReferenceIdeal.Value.run m' g') fun r h c => ?_⟩
  obtain ⟨hq, hl, h0, h1⟩ := h c
  obtain ⟨hx, hw⟩ := hagree c
  haveI := Cert.Equation.finite_facts
  obtain ⟨fx, fw⟩ := Cert.Equation.finite_entries _ _ (hpre c)
  refine ⟨hq.trans ?_, hl.trans ?_, h0, h1⟩
  · rw [hx, hw]
    exact (Cert.Equation.quantized_eq _ _).symm
  · rw [hx, hw]
    exact (Cert.Equation.loss_eq _ _ fx fw).symm

/-- The kernel and the reference end with equal first results, whatever the arguments. -/
theorem first_result :
    algebraic_KernelIdeal_ReferenceIdeal_on_quantized (hKernelIdeal := Cert.KernelIdeal.Gen.facts)
      (hReferenceIdeal := Cert.ReferenceIdeal.Gen.facts) (hOn_quantized := quantized_facts) := by
  intro m g m' g' _ hagree
  refine ⟨fun c => Cert.KernelIdeal.Value.quantized (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.KernelIdeal.Value.loss (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    θ_run_mono (Cert.KernelIdeal.Value.run m g) fun r h c => ?_,
    θ_run_mono (Cert.ReferenceIdeal.Value.run m' g') fun r h c => ?_⟩
  · obtain ⟨hq, hl, h0, h1⟩ := h c
    exact ⟨fun i _ => congrFun hq i, fun i hi => absurd (show (0#1 : BitVec 1) = 1#1 from hi) (by decide), h0, h1⟩
  · obtain ⟨hq, hl, h0, h1⟩ := h c
    obtain ⟨hx, hw⟩ := hagree c
    refine ⟨fun i _ => congrFun (hq.trans ?_) i, fun i hi => absurd (show (0#1 : BitVec 1) = 1#1 from hi) (by decide), h0, h1⟩
    rw [hx, hw]
    exact (Cert.Equation.quantized_eq _ _).symm

/-- Every claim of the certificate. -/
theorem claim : Cert.Claim :=
  ⟨Cert.Kernel.Gen.facts, Cert.KernelIdeal.Gen.facts, Cert.ReferenceIdeal.Gen.facts, Cert.Equation.finite_facts, quantized_facts,
    fun m g _ => Cert.Kernel.Gen.frame m g,
    fun m g _ => Cert.KernelIdeal.Gen.frame m g,
    fun m g _ => Cert.KernelIdeal.Gen.frame m g,
    fun m g _ => Cert.ReferenceIdeal.Value.frame m g,
    fun m g _ => Cert.ReferenceIdeal.Value.frame m g,
    trivial, both_results, first_result⟩

end Cert.Proof

end
